-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x5 : Shape := ⟨2, ![16384, 5]⟩
abbrev S1000000x50 : Shape := ⟨2, ![1000000, 50]⟩
abbrev S250x100 : Shape := ⟨2, ![250, 100]⟩
abbrev S100 : Shape := ⟨1, ![100]⟩
abbrev S100x64 : Shape := ⟨2, ![100, 64]⟩
abbrev S64 : Shape := ⟨1, ![64]⟩
abbrev S81920 : Shape := ⟨1, ![81920]⟩
abbrev S_ : Shape := ⟨0, ![]⟩
abbrev S81920x1 : Shape := ⟨2, ![81920, 1]⟩
abbrev S1 : Shape := ⟨1, ![1]⟩
abbrev S1x1 : Shape := ⟨2, ![1, 1]⟩
abbrev S81920x50 : Shape := ⟨2, ![81920, 50]⟩
abbrev S16384x250 : Shape := ⟨2, ![16384, 250]⟩
abbrev S1x100 : Shape := ⟨2, ![1, 100]⟩
abbrev S1x64 : Shape := ⟨2, ![1, 64]⟩
abbrev S16384x64 : Shape := ⟨2, ![16384, 64]⟩
abbrev S2048x250 : Shape := ⟨2, ![2048, 250]⟩
abbrev S2048x64 : Shape := ⟨2, ![2048, 64]⟩
abbrev S2048x100 : Shape := ⟨2, ![2048, 100]⟩
abbrev S2048 : Shape := ⟨1, ![2048]⟩
abbrev S2048x1 : Shape := ⟨2, ![2048, 1]⟩

abbrev nBuf : Space → Nat
  | .hbm => 34
  | .vmem => 8
  | .smem => 0
  | _ => 0

abbrev bufTy : (tb : Table) → Fin (tcTables nBuf tb) → BufTy
  | .hbm, ⟨0, _⟩ => ⟨S16384x5, .i32⟩
  | .hbm, ⟨1, _⟩ => ⟨S1000000x50, .f32⟩
  | .hbm, ⟨2, _⟩ => ⟨S250x100, .f32⟩
  | .hbm, ⟨3, _⟩ => ⟨S100, .f32⟩
  | .hbm, ⟨4, _⟩ => ⟨S100x64, .f32⟩
  | .hbm, ⟨5, _⟩ => ⟨S64, .f32⟩
  | .hbm, ⟨6, _⟩ => ⟨S81920, .i32⟩
  | .hbm, ⟨7, _⟩ => ⟨S_, .i32⟩
  | .hbm, ⟨8, _⟩ => ⟨S81920, .i32⟩
  | .hbm, ⟨9, _⟩ => ⟨S81920, .i1⟩
  | .hbm, ⟨10, _⟩ => ⟨S_, .i32⟩
  | .hbm, ⟨11, _⟩ => ⟨S81920, .i32⟩
  | .hbm, ⟨12, _⟩ => ⟨S81920, .i32⟩
  | .hbm, ⟨13, _⟩ => ⟨S81920, .i32⟩
  | .hbm, ⟨14, _⟩ => ⟨S81920x1, .i32⟩
  | .hbm, ⟨15, _⟩ => ⟨S1, .i32⟩
  | .hbm, ⟨16, _⟩ => ⟨S_, .i32⟩
  | .hbm, ⟨17, _⟩ => ⟨S81920x1, .i32⟩
  | .hbm, ⟨18, _⟩ => ⟨S81920x1, .i1⟩
  | .hbm, ⟨19, _⟩ => ⟨S1x1, .i32⟩
  | .hbm, ⟨20, _⟩ => ⟨S81920x1, .i32⟩
  | .hbm, ⟨21, _⟩ => ⟨S81920x1, .i1⟩
  | .hbm, ⟨22, _⟩ => ⟨S81920x1, .i1⟩
  | .hbm, ⟨23, _⟩ => ⟨S_, .i1⟩
  | .hbm, ⟨24, _⟩ => ⟨S81920, .i1⟩
  | .hbm, ⟨25, _⟩ => ⟨S81920x50, .f32⟩
  | .hbm, ⟨26, _⟩ => ⟨S81920x50, .i1⟩
  | .hbm, ⟨27, _⟩ => ⟨S_, .f32⟩
  | .hbm, ⟨28, _⟩ => ⟨S81920x50, .f32⟩
  | .hbm, ⟨29, _⟩ => ⟨S81920x50, .f32⟩
  | .hbm, ⟨30, _⟩ => ⟨S16384x250, .f32⟩
  | .hbm, ⟨31, _⟩ => ⟨S1x100, .f32⟩
  | .hbm, ⟨32, _⟩ => ⟨S1x64, .f32⟩
  | .hbm, ⟨33, _⟩ => ⟨S16384x64, .f32⟩
  | .local _ .vmem, ⟨0, _⟩ => ⟨S2048x250, .f32⟩
  | .local _ .vmem, ⟨1, _⟩ => ⟨S2048x250, .f32⟩
  | .local _ .vmem, ⟨2, _⟩ => ⟨S250x100, .f32⟩
  | .local _ .vmem, ⟨3, _⟩ => ⟨S1x100, .f32⟩
  | .local _ .vmem, ⟨4, _⟩ => ⟨S100x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | _, _ => ⟨S16384x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S250x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x5 : Shape := ⟨2, ![16384, 5]⟩
abbrev S1000000x50 : Shape := ⟨2, ![1000000, 50]⟩
abbrev S250x100 : Shape := ⟨2, ![250, 100]⟩
abbrev S100 : Shape := ⟨1, ![100]⟩
abbrev S100x64 : Shape := ⟨2, ![100, 64]⟩
abbrev S64 : Shape := ⟨1, ![64]⟩
abbrev S_ : Shape := ⟨0, ![]⟩
abbrev S16384x5x1 : Shape := ⟨3, ![16384, 5, 1]⟩
abbrev S1 : Shape := ⟨1, ![1]⟩
abbrev S1x1x1 : Shape := ⟨3, ![1, 1, 1]⟩
abbrev S16384x5x50 : Shape := ⟨3, ![16384, 5, 50]⟩
abbrev S16384x250 : Shape := ⟨2, ![16384, 250]⟩
abbrev S16384x100 : Shape := ⟨2, ![16384, 100]⟩
abbrev S1x100 : Shape := ⟨2, ![1, 100]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x5, .i32⟩
  | .hbm, ⟨1, _⟩ => ⟨S1000000x50, .f32⟩
  | .hbm, ⟨2, _⟩ => ⟨S250x100, .f32⟩
  | .hbm, ⟨3, _⟩ => ⟨S100, .f32⟩
  | .hbm, ⟨4, _⟩ => ⟨S100x64, .f32⟩
  | .hbm, ⟨5, _⟩ => ⟨S64, .f32⟩
  | .hbm, ⟨6, _⟩ => ⟨S_, .i32⟩
  | .hbm, ⟨7, _⟩ => ⟨S16384x5, .i32⟩
  | .hbm, ⟨8, _⟩ => ⟨S16384x5, .i1⟩
  | .hbm, ⟨9, _⟩ => ⟨S_, .i32⟩
  | .hbm, ⟨10, _⟩ => ⟨S16384x5, .i32⟩
  | .hbm, ⟨11, _⟩ => ⟨S16384x5, .i32⟩
  | .hbm, ⟨12, _⟩ => ⟨S16384x5, .i32⟩
  | .hbm, ⟨13, _⟩ => ⟨S16384x5x1, .i32⟩
  | .hbm, ⟨14, _⟩ => ⟨S1, .i32⟩
  | .hbm, ⟨15, _⟩ => ⟨S_, .i32⟩
  | .hbm, ⟨16, _⟩ => ⟨S16384x5x1, .i32⟩
  | .hbm, ⟨17, _⟩ => ⟨S16384x5x1, .i1⟩
  | .hbm, ⟨18, _⟩ => ⟨S1x1x1, .i32⟩
  | .hbm, ⟨19, _⟩ => ⟨S16384x5x1, .i32⟩
  | .hbm, ⟨20, _⟩ => ⟨S16384x5x1, .i1⟩
  | .hbm, ⟨21, _⟩ => ⟨S16384x5x1, .i1⟩
  | .hbm, ⟨22, _⟩ => ⟨S_, .i1⟩
  | .hbm, ⟨23, _⟩ => ⟨S16384x5, .i1⟩
  | .hbm, ⟨24, _⟩ => ⟨S16384x5x50, .f32⟩
  | .hbm, ⟨25, _⟩ => ⟨S16384x5x50, .i1⟩
  | .hbm, ⟨26, _⟩ => ⟨S_, .f32⟩
  | .hbm, ⟨27, _⟩ => ⟨S16384x5x50, .f32⟩
  | .hbm, ⟨28, _⟩ => ⟨S16384x5x50, .f32⟩
  | .hbm, ⟨29, _⟩ => ⟨S16384x250, .f32⟩
  | .hbm, ⟨30, _⟩ => ⟨S16384x100, .f32⟩
  | .hbm, ⟨31, _⟩ => ⟨S1x100, .f32⟩
  | .hbm, ⟨32, _⟩ => ⟨S16384x100, .f32⟩
  | .hbm, ⟨33, _⟩ => ⟨S16384x100, .f32⟩
  | .hbm, ⟨34, _⟩ => ⟨S16384x100, .f32⟩
  | .hbm, ⟨35, _⟩ => ⟨S16384x64, .f32⟩
  | .hbm, ⟨36, _⟩ => ⟨S1x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x64, .f32⟩
  | .hbm, ⟨52, _⟩ => ⟨S16384x64, .f32⟩
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Mlp.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes

@[expose] public section

/-! # The perceptron with its softmax, over the extended reals

One row of 250 looked-up numbers goes through a tanh layer of 100 units, a linear layer of 64 outputs and a softmax.
Here this function of one row is written down (`mlpRow`), and both programs are shown to compute it: the kernel's
body on each row of its block (`pay_apply`), the reference on each row of the whole array (`refMlp_apply`). -/

set_option maxRecDepth 16384

noncomputable section

namespace Cert.Mlp

open Idealize.ShloMosaic

/-- The value that both programs start a row's maximum from (the word of minus infinity). -/
abbrev floor : EReal := Ideal.ofBits FTy.f32 0xFF800000#32

/-- The 64 scores of one row `e`: a tanh layer, then a linear one. -/
def scores (e : Fin 250 → EReal) (W : Fin 250 → Fin 100 → EReal) (b : Fin 100 → EReal)
    (W' : Fin 100 → Fin 64 → EReal) (b' : Fin 64 → EReal) (j : Fin 64) : EReal :=
  ∑ k, Ideal.tanh (∑ i, e i * W i k + b k) * W' k j + b' j

/-- A row's maximum. -/
def top (l : Fin 64 → EReal) : EReal := Finset.fold max floor l Finset.univ

/-- The softmax of a row of 64 scores, the row's maximum taken off first. -/
def softRow (l : Fin 64 → EReal) (j : Fin 64) : EReal :=
  Ideal.div (Ideal.exp (l j - top l)) (∑ k, Ideal.exp (l k - top l))

/-- What one row of looked-up numbers is sent to. -/
def mlpRow (e : Fin 250 → EReal) (W : Fin 250 → Fin 100 → EReal) (b : Fin 100 → EReal)
    (W' : Fin 100 → Fin 64 → EReal) (b' : Fin 64 → EReal) : Fin 64 → EReal :=
  softRow (scores e W b W' b')

/-- A maximum started from `floor` is not below `floor`: taking the maximum with it once more changes nothing. -/
theorem max_floor_top (l : Fin 64 → EReal) : max floor (top l) = top l :=
  max_eq_right ((Finset.le_fold_max _).mpr (Or.inl le_rfl))

/-! ## The kernel's body -/

/-- The kernel's body, on a block of 2048 rows, computes `mlpRow` of each row. -/
theorem pay_apply (x0 : FVec Ideal Cert.KernelIdeal.S2048x250 .f32) (x1 : FVec Ideal Cert.KernelIdeal.S250x100 .f32)
    (x2 : FVec Ideal Cert.KernelIdeal.S1x100 .f32) (x3 : FVec Ideal Cert.KernelIdeal.S100x64 .f32)
    (x4 : FVec Ideal Cert.KernelIdeal.S1x64 .f32) (r : Fin 2048) (j : Fin 64) :
    Cert.KernelIdeal.Gen.k0_pay1 (F := Ideal) x0 x1 x2 x3 x4 (ix2 r j)
      = mlpRow (fun i => x0 (ix2 r i)) (fun i k => x1 (ix2 i k)) (fun k => x2 (ix2 0 k)) (fun k j => x3 (ix2 k j))
          (fun j => x4 (ix2 0 j)) j := by
  pointwise [Cert.KernelIdeal.Gen.k0_pay1]
  rfl

/-! ## The reference -/

section Reference
open Cert.ReferenceIdeal Cert.ReferenceIdeal.Gen

/-- The reference's scores as its array operations write them, from the looked-up rows `E`. -/
def refScores (E : FVec Ideal S16384x250 .f32) (W : FVec Ideal S250x100 .f32) (b : FVec Ideal S100 .f32)
    (W' : FVec Ideal S100x64 .f32) (b' : FVec Ideal S64 .f32) : FVec Ideal S16384x64 .f32 :=
  addf (Host.dotGeneral dot_S16384x100_S100x64_S16384x64_1_0_0_1_n_n none
      (Host.tanh (addf (Host.dotGeneral dot_S16384x250_S250x100_S16384x100_1_0_0_1_n_n none E W)
        (broadcastInDim S16384x100 ![0, 1] bcast_S1x100_S16384x100_0_1 (broadcastInDim S1x100 ![1] bcast_S100_S1x100_1 b)))) W')
    (broadcastInDim S16384x64 ![0, 1] bcast_S1x64_S16384x64_0_1 (broadcastInDim S1x64 ![1] bcast_S64_S1x64_1 b'))

/-- The reference's row maximum, spread over the row again. -/
def refTop (l : FVec Ideal S16384x64 .f32) : FVec Ideal S16384x64 .f32 :=
  broadcastInDim S16384x64 ![0, 1] bcast_S16384x1_S16384x64_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x64_S16384_d1 h_S_)))

/-- The reference's softmax as its array operations write it. -/
def refSoft (l : FVec Ideal S16384x64 .f32) : FVec Ideal S16384x64 .f32 :=
  Host.divf (Host.exp (subf l (refTop l)))
    (broadcastInDim S16384x64 ![0, 1] bcast_S16384x1_S16384x64_0_1 (broadcastInDim S16384x1 ![0] bcast_S16384_S16384x1_0
      (Host.reduceAdd (Host.exp (subf l (refTop l))) (constant S_ .f32 0x00000000#32) reducesTo_S16384x64_S16384_d1 h_S_)))

/-- The reference's scores, read at row `r` and output `j`. -/
theorem refScores_apply (E : FVec Ideal S16384x250 .f32) (W : FVec Ideal S250x100 .f32) (b : FVec Ideal S100 .f32)
    (W' : FVec Ideal S100x64 .f32) (b' : FVec Ideal S64 .f32) (r : Fin 16384) (j : Fin 64) :
    refScores E W b W' b' (ix2 r j)
      = scores (fun i => E (ix2 r i)) (fun i k => W (ix2 i k)) (fun k => b (ix1 k)) (fun k j => W' (ix2 k j))
          (fun j => b' (ix1 j)) j := by
  pointwise [refScores]
  rfl

/-- The reference's softmax, read at row `r` and output `j`. -/
theorem refSoft_apply (l : FVec Ideal S16384x64 .f32) (r : Fin 16384) (j : Fin 64) :
    refSoft l (ix2 r j) = softRow (fun k => l (ix2 r k)) j := by
  rw [softRow, ← max_floor_top]
  pointwise [refSoft, refTop]
  rfl

/-- The reference's perceptron, read at row `r` and output `j`, is `mlpRow` of row `r`. -/
theorem refMlp_apply (E : FVec Ideal S16384x250 .f32) (W : FVec Ideal S250x100 .f32) (b : FVec Ideal S100 .f32)
    (W' : FVec Ideal S100x64 .f32) (b' : FVec Ideal S64 .f32) (r : Fin 16384) (j : Fin 64) :
    refSoft (refScores E W b W' b') (ix2 r j)
      = mlpRow (fun i => E (ix2 r i)) (fun i k => W (ix2 i k)) (fun k => b (ix1 k)) (fun k j => W' (ix2 k j))
          (fun j => b' (ix1 j)) j := by
  rw [refSoft_apply, mlpRow]
  congr 1
  funext k
  exact refScores_apply E W b W' b' r k

end Reference

end Cert.Mlp

end
-- ==== Proof.Lookup.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes

@[expose] public section

/-! # The looked-up rows

The kernel flattens the 16384×5 array of words before the look-up, the reference looks them up as they stand. Both
then lay five rows of 50 numbers side by side as one row of 250. Here both are read at row `r` and position `i`: each
is `pick` of the word `(r, i / 50)` at column `i % 50`, whatever the word is, in the table's range or not. -/

set_option maxRecDepth 16384

noncomputable section

namespace Cert.Lookup

open Idealize.ShloMosaic

/-- A word as the look-up reads it: a negative one counts from the table's end. -/
def wrap (w : BitVec 32) : BitVec 32 := Scalar.select (IntOp.cmpi .slt w 0#32) (IntOp.addi w 1000000#32) w

/-- Whether a wrapped word names a row of the table. -/
def inRange (v : BitVec 32) : BitVec 1 := IntOp.andi (IntOp.cmpi .sge v 0#32) (IntOp.cmpi .sle v 999999#32)

/-- The number that word `w` and column `q` look up: the table's, or the filling value where the word names no row. -/
def pick (T : (⟨2, ![1000000, 50]⟩ : Shape).Idx → EReal) (w : BitVec 32) (q : Fin 50) : EReal :=
  Scalar.select (Finset.fold IntOp.andi 1#1 (fun _ : Fin 1 => inRange (wrap w)) Finset.univ)
    (T (ix2 ⟨min (wrap w).toInt.toNat 999999, by omega⟩ q)) (Ideal.ofBits FTy.f32 0x7FC00000#32)

/-- The word of row `r` that position `i` belongs to. -/
abbrev word (i : Fin 250) : Fin 5 := ⟨i.val / 50, by omega⟩
/-- The column of the table that position `i` holds. -/
abbrev col (i : Fin 250) : Fin 50 := ⟨i.val % 50, by omega⟩

/-! ## The reference -/

section Reference
open Cert.ReferenceIdeal Cert.ReferenceIdeal.Gen

/-- The reference's wrapped words. -/
def refIdx (X : IVec S16384x5 32) : IVec S16384x5x1 32 :=
  broadcastInDim S16384x5x1 ![0, 1] bcast_S16384x5_S16384x5x1_0_1
    (select (cmpi .slt X (broadcastInDim S16384x5 ![] bcast_S_S16384x5 (constantI S_ 32 0#32)))
      (addi X (broadcastInDim S16384x5 ![] bcast_S_S16384x5 (constantI S_ 32 1000000#32))) X)

/-- Which of the reference's words name a row. -/
def refMask (v : IVec S16384x5x1 32) : IVec S16384x5 1 :=
  Host.reduce IntOp.andi
    (andi (cmpi .sge v (broadcastInDim S16384x5x1 ![] bcast_S_S16384x5x1 (constantI S_ 32 0#32)))
      (cmpi .sle v (broadcastInDim S16384x5x1 ![0, 1, 2] bcast_S1x1x1_S16384x5x1_0_1_2
        (broadcastInDim S1x1x1 ![2] bcast_S1_S1x1x1_2 (constantI S1 32 999999#32)))))
    (constantI S_ 1 1#1) reducesTo_S16384x5x1_S16384x5_d2 h_S_

/-- The reference's look-up as its array operations write it. -/
def refTake (T : FVec Ideal S1000000x50 .f32) (X : IVec S16384x5 32) : FVec Ideal S16384x5x50 .f32 :=
  select (broadcastInDim S16384x5x50 ![0, 1] bcast_S16384x5_S16384x5x50_0_1 (refMask (refIdx X)))
    (Host.gather gather_S1000000x50_S16384x5x1_S16384x5x50_2_0_n_n_0_2_150 T (refIdx X))
    (broadcastInDim S16384x5x50 ![] bcast_S_S16384x5x50 (constant S_ .f32 0x7FC00000#32))

/-- The reference's rows of 250. -/
def refLook (T : FVec Ideal S1000000x50 .f32) (X : IVec S16384x5 32) : FVec Ideal S16384x250 .f32 :=
  shapeCast S16384x250 (refTake T X) shapeCasts_S16384x5x50_S16384x250

theorem refIdx_apply (X : IVec S16384x5 32) (r : Fin 16384) (s : Fin 5) (z : Fin 1) :
    refIdx X (ix3 r s z) = wrap (X (ix2 r s)) := by
  pointwise [refIdx]
  rfl

theorem refMask_apply (v : IVec S16384x5x1 32) (r : Fin 16384) (s : Fin 5) :
    refMask v (ix2 r s) = Finset.fold IntOp.andi 1#1 (fun z : Fin 1 => inRange (v (ix3 r s z))) Finset.univ := by
  pointwise [refMask]
  rfl

/-- The reference's gather, read at an index: the table at the word there, read signed and kept within the table. -/
theorem refGather_apply (T : FVec Ideal S1000000x50 .f32) (v : IVec S16384x5x1 32) (r : Fin 16384) (s : Fin 5)
    (q : Fin 50) :
    Host.gather gather_S1000000x50_S16384x5x1_S16384x5x50_2_0_n_n_0_2_150 T v (ix3 r s q)
      = T (ix2 ⟨min (v (ix3 r s 0)).toInt.toNat 999999, by omega⟩ q) := by
  unfold Host.gather
  congr 1
  funext a
  refine Fin.ext ?_
  show (gather_S1000000x50_S16384x5x1_S16384x5x50_2_0_n_n_0_2_150).start _ v a + (gather_S1000000x50_S16384x5x1_S16384x5x50_2_0_n_n_0_2_150).batchCoord _ a + (gather_S1000000x50_S16384x5x1_S16384x5x50_2_0_n_n_0_2_150).offCoord _ a = _
  have ha : a = 0 ∨ a = 1 := by
    match a with
    | ⟨0, _⟩ => exact Or.inl rfl
    | ⟨1, _⟩ => exact Or.inr rfl
  rcases ha with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S1000000x50_S16384x5x1_S16384x5x50_2_0_n_n_0_2_150).startIndexMap from List.mem_singleton.mpr rfl)]
    have hi : (gather_S1000000x50_S16384x5x1_S16384x5x50_2_0_n_n_0_2_150).siIdx (ix3 r s q) ⟨List.idxOf (0 : Fin 2) (gather_S1000000x50_S16384x5x1_S16384x5x50_2_0_n_n_0_2_150).startIndexMap,
        List.idxOf_lt_length_iff.2 (List.mem_singleton.mpr rfl)⟩ = ix3 r s 0 := by
      funext b
      refine Fin.ext ?_
      fin_cases b <;> rfl
    rw [hi]
    rfl
  · rw [GatherDims.batchCoord_eq_zero _ _ _ List.not_mem_nil]
    unfold GatherDims.start GatherDims.offCoord
    rw [dif_neg (show (1 : Fin 2) ∉ (gather_S1000000x50_S16384x5x1_S16384x5x50_2_0_n_n_0_2_150).startIndexMap by decide),
      dif_pos ((GatherDims.mem_sKept _ _).mpr ⟨by decide, List.not_mem_nil⟩)]
    simp only [Nat.zero_add]
    rfl

theorem refTake_apply (T : FVec Ideal S1000000x50 .f32) (X : IVec S16384x5 32) (r : Fin 16384) (s : Fin 5) (q : Fin 50) :
    refTake T X (ix3 r s q) = pick T (X (ix2 r s)) q := by
  pointwise [refTake]
  rw [refGather_apply, refMask_apply]
  simp only [refIdx_apply]
  rfl

/-- Position `i` of the reference's row `r`. -/
theorem refLook_apply (T : FVec Ideal S1000000x50 .f32) (X : IVec S16384x5 32) (r : Fin 16384) (i : Fin 250) :
    refLook T X (ix2 r i) = pick T (X (ix2 r (word i))) (col i) := by
  pointwise [refLook]
  rw [← refTake_apply]

end Reference

/-! ## The kernel -/

section Kernel
open Cert.KernelIdeal Cert.KernelIdeal.Gen

/-- The kernel's wrapped words, from the flattened array. -/
def kerIdx (X : IVec S81920 32) : IVec S81920x1 32 :=
  broadcastInDim S81920x1 ![0] bcast_S81920_S81920x1_0
    (select (cmpi .slt X (broadcastInDim S81920 ![] bcast_S_S81920 (constantI S_ 32 0#32)))
      (addi X (broadcastInDim S81920 ![] bcast_S_S81920 (constantI S_ 32 1000000#32))) X)

/-- Which of the kernel's words name a row. -/
def kerMask (v : IVec S81920x1 32) : IVec S81920 1 :=
  Host.reduce IntOp.andi
    (andi (cmpi .sge v (broadcastInDim S81920x1 ![] bcast_S_S81920x1 (constantI S_ 32 0#32)))
      (cmpi .sle v (broadcastInDim S81920x1 ![0, 1] bcast_S1x1_S81920x1_0_1
        (broadcastInDim S1x1 ![1] bcast_S1_S1x1_1 (constantI S1 32 999999#32)))))
    (constantI S_ 1 1#1) reducesTo_S81920x1_S81920_d1 h_S_

/-- The kernel's look-up as its array operations write it. -/
def kerTake (T : FVec Ideal S1000000x50 .f32) (X : IVec S81920 32) : FVec Ideal S81920x50 .f32 :=
  select (broadcastInDim S81920x50 ![0] bcast_S81920_S81920x50_0 (kerMask (kerIdx X)))
    (Host.gather gather_S1000000x50_S81920x1_S81920x50_1_0_n_n_0_1_150 T (kerIdx X))
    (broadcastInDim S81920x50 ![] bcast_S_S81920x50 (constant S_ .f32 0x7FC00000#32))

/-- The kernel's rows of 250. -/
def kerLook (T : FVec Ideal S1000000x50 .f32) (X : IVec S16384x5 32) : FVec Ideal S16384x250 .f32 :=
  shapeCast S16384x250 (kerTake T (shapeCast S81920 X shapeCasts_S16384x5_S81920)) shapeCasts_S81920x50_S16384x250

theorem kerIdx_apply (X : IVec S81920 32) (p : Fin 81920) (z : Fin 1) :
    kerIdx X (ix2 p z) = wrap (X (ix1 p)) := by
  pointwise [kerIdx]
  rfl

theorem kerMask_apply (v : IVec S81920x1 32) (p : Fin 81920) :
    kerMask v (ix1 p) = Finset.fold IntOp.andi 1#1 (fun z : Fin 1 => inRange (v (ix2 p z))) Finset.univ := by
  pointwise [kerMask]
  rfl

/-- The kernel's gather, read at an index. -/
theorem kerGather_apply (T : FVec Ideal S1000000x50 .f32) (v : IVec S81920x1 32) (p : Fin 81920) (q : Fin 50) :
    Host.gather gather_S1000000x50_S81920x1_S81920x50_1_0_n_n_0_1_150 T v (ix2 p q)
      = T (ix2 ⟨min (v (ix2 p 0)).toInt.toNat 999999, by omega⟩ q) := by
  unfold Host.gather
  congr 1
  funext a
  refine Fin.ext ?_
  show (gather_S1000000x50_S81920x1_S81920x50_1_0_n_n_0_1_150).start _ v a + (gather_S1000000x50_S81920x1_S81920x50_1_0_n_n_0_1_150).batchCoord _ a + (gather_S1000000x50_S81920x1_S81920x50_1_0_n_n_0_1_150).offCoord _ a = _
  have ha : a = 0 ∨ a = 1 := by
    match a with
    | ⟨0, _⟩ => exact Or.inl rfl
    | ⟨1, _⟩ => exact Or.inr rfl
  rcases ha with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S1000000x50_S81920x1_S81920x50_1_0_n_n_0_1_150).startIndexMap from List.mem_singleton.mpr rfl)]
    have hi : (gather_S1000000x50_S81920x1_S81920x50_1_0_n_n_0_1_150).siIdx (ix2 p q) ⟨List.idxOf (0 : Fin 2) (gather_S1000000x50_S81920x1_S81920x50_1_0_n_n_0_1_150).startIndexMap,
        List.idxOf_lt_length_iff.2 (List.mem_singleton.mpr rfl)⟩ = ix2 p 0 := by
      funext b
      refine Fin.ext ?_
      fin_cases b <;> rfl
    rw [hi]
    rfl
  · rw [GatherDims.batchCoord_eq_zero _ _ _ List.not_mem_nil]
    unfold GatherDims.start GatherDims.offCoord
    rw [dif_neg (show (1 : Fin 2) ∉ (gather_S1000000x50_S81920x1_S81920x50_1_0_n_n_0_1_150).startIndexMap by decide),
      dif_pos ((GatherDims.mem_sKept _ _).mpr ⟨by decide, List.not_mem_nil⟩)]
    simp only [Nat.zero_add]
    rfl

theorem kerTake_apply (T : FVec Ideal S1000000x50 .f32) (X : IVec S81920 32) (p : Fin 81920) (q : Fin 50) :
    kerTake T X (ix2 p q) = pick T (X (ix1 p)) q := by
  pointwise [kerTake]
  rw [kerGather_apply, kerMask_apply]
  simp only [kerIdx_apply]
  rfl

/-- Position `i` of the kernel's row `r`. -/
theorem kerLook_apply (T : FVec Ideal S1000000x50 .f32) (X : IVec S16384x5 32) (r : Fin 16384) (i : Fin 250) :
    kerLook T X (ix2 r i) = pick T (X (ix2 r (word i))) (col i) := by
  pointwise [kerLook]
  rw [kerTake_apply]
  pointwise
  congr 1
  refine congrArg X ?_
  congr 1
  refine Fin.ext ?_
  show (r.val * 5 + i.val / 50) % 5 = i.val / 50
  omega

end Kernel

/-- The kernel looks up what the reference does. -/
theorem look_eq (T : FVec Ideal Cert.KernelIdeal.S1000000x50 .f32) (X : IVec Cert.KernelIdeal.S16384x5 32) (r : Fin 16384)
    (i : Fin 250) : kerLook T X (ix2 r i) = refLook T X (ix2 r i) :=
  (kerLook_apply T X r i).trans (refLook_apply T X r i).symm

end Cert.Lookup

end
-- ==== Proof.Output.lean ====
module

public import proofs.«01_k».proof.Proof.Mlp
public import proofs.«01_k».proof.Proof.Lookup
public import Idealize.ShloMosaic.Lib.Pipeline.ValueKit
public import Idealize.ShloMosaic.Lib.Claim

@[expose] public section

/-! # What the kernel's output array holds after the run

The pallas_call walks 8 blocks of 2048 rows. At each it reads its block of looked-up rows and the whole of the weights
and biases. The output array is then the reference's own perceptron and softmax over the rows that the kernel looked up. -/

set_option maxRecDepth 16384

noncomputable section

namespace Cert.Output

open Idealize.ShloMosaic Idealize.ShloMosaic.TcCoe
open Cert.KernelIdeal Cert.KernelIdeal.Gen
open Cert.Mlp Cert.Lookup

variable (m : (ℓ : Loc nD τ sig) → Buf (Elt Ideal) ℓ)

/-- Which block each window stands at: the rows' and the output's move with the grid point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array of rows that the pallas_call finds is the kernel's look-up of the launched table and words. -/
theorem rows_eq (c : Dev nD) : V m c main_v2
    = kerLook (m ((c : Thread nD τ).loc main_arg1)) (m ((c : Thread nD τ).loc main_arg0)) := by
  simp only [V, hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp
  rfl

/-- The first layer's bias, laid out as one row. -/
theorem bias_eq (c : Dev nD) : V m c main_v3 = shapeCast S1x100 (m ((c : Thread nD τ).loc main_arg3)) shapeCasts_S100_S1x100 := by
  simp only [V, hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp
  rfl

/-- The second layer's bias, laid out as one row. -/
theorem bias'_eq (c : Dev nD) : V m c main_v4 = shapeCast S1x64 (m ((c : Thread nD τ).loc main_arg5)) shapeCasts_S64_S1x64 := by
  simp only [V, hostOps0, hostOps0_1, hostOps0_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp
  rfl

/-- What the output array holds. -/
def outArr (c : Dev nD) : FVec Ideal Cert.ReferenceIdeal.S16384x64 .f32 :=
  refSoft (refScores (kerLook (m ((c : Thread nD τ).loc main_arg1)) (m ((c : Thread nD τ).loc main_arg0)))
    (m ((c : Thread nD τ).loc main_arg2)) (m ((c : Thread nD τ).loc main_arg3))
    (m ((c : Thread nD τ).loc main_arg4)) (m ((c : Thread nD τ).loc main_arg5)))

/-- Block `t` of the output, at any of its indices. -/
theorem point (c : Dev nD) (t : Fin cfg0.N) (r : Fin 2048) (j : Fin 64) :
    k0_pay1 (F := Ideal) (iblk m c 0 t) (iblk m c 1 t) (iblk m c 2 t) (iblk m c 3 t) (iblk m c 4 t) (ix2 r j)
      = outArr m c (((cfg0.win 5).blk t).view.emb (ix2 r j)) := by
  have ht : t.val < 8 := t.isLt
  have he : ((cfg0.win 5).blk t).view.emb (ix2 r j) = ix2 (⟨t.val * 2048 + r.val, by omega⟩ : Fin 16384) j := by
    blk_ext [idx t]
  rw [he, outArr]
  refine (pay_apply _ _ _ _ _ r j).trans (Eq.trans ?_ (refMlp_apply _ _ _ _ _ _ j).symm)
  rw [← rows_eq]
  have e0 : ∀ i : Fin 250, iblk m c 0 t (ix2 r i) = V m c main_v2 (ix2 (⟨t.val * 2048 + r.val, by omega⟩ : Fin 16384) i) := by
    intro i
    refine congrArg (V m c main_v2) ?_
    blk_ext [idx t]
  have e1 : ∀ (i : Fin 250) (k : Fin 100), iblk m c 1 t (ix2 i k) = m ((c : Thread nD τ).loc main_arg2) (ix2 i k) := by
    intro i k
    blk_ext! [iblk, V, idx t]
  have e2 : ∀ k : Fin 100, iblk m c 2 t (ix2 0 k) = m ((c : Thread nD τ).loc main_arg3) (ix1 k) := by
    intro k
    have h : iblk m c 2 t (ix2 0 k) = V m c main_v3 (ix2 0 k) := by
      refine congrArg (V m c main_v3) ?_
      blk_ext [idx t]
    rw [h, bias_eq]
    pointwise
  have e3 : ∀ (i : Fin 100) (k : Fin 64), iblk m c 3 t (ix2 i k) = m ((c : Thread nD τ).loc main_arg4) (ix2 i k) := by
    intro i k
    blk_ext! [iblk, V, idx t]
  have e4 : ∀ k : Fin 64, iblk m c 4 t (ix2 0 k) = m ((c : Thread nD τ).loc main_arg5) (ix1 k) := by
    intro k
    have h : iblk m c 4 t (ix2 0 k) = V m c main_v4 (ix2 0 k) := by
      refine congrArg (V m c main_v4) ?_
      blk_ext [idx t]
    rw [h, bias'_eq]
    pointwise
  simp only [e0, e1, e2, e3, e4]

/-- The output array after the run. -/
theorem final (c : Dev nD) : (dats m 0 c).arrAt 5 cfg0.N = outArr m c := by
  refine (dats m 0 c).arrAt_eq_of_covers 5 _ (by decide +kernel) fun t _ y => ?_
  blk_simp
  rw [after0_5]
  frame_out
  idx_vars y
  exact point m c t _ _

end Cert.Output

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Output
public import Idealize.ShloMosaic.Adequacy
public import Idealize.ShloMosaic.Init
public import Idealize.ShloMosaic.Lib.Quiescent

@[expose] public section

/-! # The claims

The kernel, its reading over the extended reals and the reference each end without fault, with their arguments as they
were and every semaphore counter at zero. Over the extended reals the kernel and the reference compute the same array. -/

set_option maxRecDepth 16384

noncomputable section

namespace Cert.Proof

open Idealize.ShloMosaic Idealize.ShloMosaic.TcCoe Idealize.SL.Sem

/-- The reference ends without fault, its arguments as they were, every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's rows are the reference's, as whole arrays. -/
theorem look_arr_eq (T : FVec Ideal Cert.KernelIdeal.S1000000x50 .f32) (X : IVec Cert.KernelIdeal.S16384x5 32) :
    Cert.Lookup.kerLook T X = Cert.Lookup.refLook T X := by
  funext y
  idx_vars y
  exact Cert.Lookup.look_eq T X _ _

/-- The reference's result is its softmax of its scores of its looked-up rows. -/
theorem res_eq (m : (ℓ : Loc Cert.ReferenceIdeal.nD Cert.ReferenceIdeal.τ Cert.ReferenceIdeal.sig) → Buf (Elt Ideal) ℓ)
    (c : Dev Cert.ReferenceIdeal.nD) : Cert.ReferenceIdeal.Value.res_out0 m c
      = Cert.Mlp.refSoft (Cert.Mlp.refScores
          (Cert.Lookup.refLook (m ((c : Thread Cert.ReferenceIdeal.nD Cert.ReferenceIdeal.τ).loc Cert.ReferenceIdeal.main_arg1))
            (m ((c : Thread Cert.ReferenceIdeal.nD Cert.ReferenceIdeal.τ).loc Cert.ReferenceIdeal.main_arg0)))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4))
          (m ((c : Thread Cert.ReferenceIdeal.nD Cert.ReferenceIdeal.τ).loc Cert.ReferenceIdeal.main_arg5))) := by
  unfold Cert.ReferenceIdeal.Value.res_out0 Cert.ReferenceIdeal.Value.res_main_v21
  rfl

/-- From memories that agree on the arguments, kernel and reference end with the same result. -/
theorem algebraic : Cert.algebraic_KernelIdeal_ReferenceIdeal := by
  intro m ρ m' ρ' _ hagree
  refine ⟨fun c => Cert.Output.outArr m c,
    (θ_run Cert.KernelIdeal.defs _ _).mono (fun _ h c => ⟨(h c).1.trans (Cert.Output.final m c), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  refine (res_eq m' c).trans ?_
  obtain ⟨h0, h1, h2, h3, h4, h5⟩ := hagree c
  rw [h0, h1, h2, h3, h4, h5, ← look_arr_eq]
  rfl

/-- Everything claimed: the three frames, the idealization, and the equality of kernel and reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
